-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![256, 512]⟩ ⟨2, ![512, 512]⟩ (Layout.meshBlock [2, 2, 4] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![512, 256]⟩ ⟨2, ![512, 512]⟩ (Layout.meshBlock [2, 2, 4] ![[], [0]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S256x512 : Shape := ⟨2, ![256, 512]⟩
abbrev S512x256 : Shape := ⟨2, ![512, 256]⟩
abbrev S_ : Shape := ⟨0, ![]⟩
abbrev S256x256 : Shape := ⟨2, ![256, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .local _ .vmem, ⟨0, _⟩ => ⟨S256x512, .f32⟩
  | .local _ .vmem, ⟨1, _⟩ => ⟨S512x256, .f32⟩
  | _, _ => ⟨S256x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_8 : BitVec 32 := 256#32
  let v18 : BitVec 32 := Scalar.muli v2 c256_i32_8
  let c0_i32_13 : BitVec 32 := 0#32
  ![v18.toNat, 0]
def k0_off2 (d0 : Dev nD) : Fin 2 → Nat :=
  let c0_i32_14 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c256_i32 : BitVec 32 := 256#32
  let v17 : BitVec 32 := Scalar.muli v9 c256_i32
  ![0, v17.toNat]
def k0_dev2 (d0 : Dev nD) : Nat :=
  let c0_i32_10 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9 : BitVec 32 := 8#32
  let v19 : BitVec 32 := Scalar.muli v9 c8_i32_9
  let v20 : BitVec 32 := Scalar.addi c0_i32_10 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
def k0_off3 (d0 : Dev nD) : Fin 2 → Nat :=
  let c0 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_15 : BitVec 32 := 256#32
  let v27 : BitVec 32 := Scalar.muli v2 c256_i32_15
  let v28 : Index := Scalar.indexCast v27
  ![0, v28.toNat]
def k0_off4 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_16 : BitVec 32 := 256#32
  let v31 : BitVec 32 := Scalar.muli v2 c256_i32_16
  let v32 : Index := Scalar.indexCast v31
  let c0_17 : Index := 0#32
  ![v32.toNat, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Halves.lean ====
/-
The two halves of a device's blocks.

A device `c` has mesh coordinates `(x, y, z)` with `x = c / 8`; it exchanges data with its mate, the device at
`1 - x` and the same `y`, `z`. The kernel cuts its input block [256, 512] into two halves of 256 columns and its
output block [512, 256] into two halves of 256 rows. This module names the halves the kernel's windows denote, says
which elements each one holds, and computes what the remote copy and the local store write into them.
-/
module

public import proofs.«01_k».proof.Proof.Gen.KernelIdeal
public import proofs.«01_k».proof.Proof.Gen.KernelIdeal.Skeleton
public import Idealize.ShloMosaic.Lib.Pipeline.Value

@[expose] public section

noncomputable section

namespace Cert.Exchange

open Cert.KernelIdeal Cert.KernelIdeal.Gen
open Idealize.ShloMosaic Idealize.SL Idealize.SL.Sem

/-! ## The mate of a device -/

/-- The device with the other first mesh coordinate and the same second and third ones: eight away. -/
def mate (c : Dev nD) : Dev nD := ⟨(c.val + 8) % 16, Nat.mod_lt _ (by decide)⟩

/-- Being mates is mutual. -/
theorem mate_mate (c : Dev nD) : mate (mate c) = c := by revert c; decide

/-- A device's first coordinate is 0 or 1, and its mate's is the other one. -/
theorem mate_coord (c : Dev nD) : (mate c).val / 8 = 1 - c.val / 8 := by revert c; decide

/-- A device's first coordinate is 0 or 1. -/
theorem coord_le (c : Dev nD) : c.val / 8 ≤ 1 := by revert c; decide

/-- The device the kernel signals is the mate. -/
theorem signal_dev (c : Dev nD) : (⟨k0_dev1 c, k0_dev1_lt c⟩ : Dev nD) = mate c := by revert c; decide +kernel

/-- The device the kernel copies to is the mate. -/
theorem copy_dev (c : Dev nD) : (⟨k0_dev2 c, k0_dev2_lt c⟩ : Dev nD) = mate c := by revert c; decide +kernel

/-- Pairing each device with its mate, as a permutation. -/
def mates : Dev nD ≃ Dev nD := ⟨mate, mate, mate_mate, mate_mate⟩

/-! ## The windows -/

/-- The staging buffer of the input block. -/
abbrev xM : Memref sig .tc .vmem S256x512 .f32 := Memref.whole cc0_stg0_0
/-- The staging buffer of the output block. -/
abbrev oM : Memref sig .tc .vmem S512x256 .f32 := Memref.whole cc0_stg1_0

/-- The output rows numbered by `c`'s first coordinate: on `c` the rows it fills from its own block, on its mate the
    rows its copy lands in. -/
abbrev rowsR (c : Dev nD) : Rect S512x256 := Rect.unit (s := S512x256) (k0_off1 c) S256x256.size (k0_off1_inb c)
/-- The input columns `c` sends: those numbered by its mate's first coordinate. -/
abbrev sentR (c : Dev nD) : Rect S256x512 := Rect.unit (s := S256x512) (k0_off2 c) S256x256.size (k0_off2_inb c)
/-- The input columns `c` keeps. -/
abbrev keptR (c : Dev nD) : Rect S256x512 := Rect.unit (s := S256x512) (k0_off3 c) S256x256.size (k0_off3_inb c)
/-- The output rows `c` stores into. -/
abbrev storedR (c : Dev nD) : Rect S512x256 := Rect.unit (s := S512x256) (k0_off4 c) S256x256.size (k0_off4_inb c)

/-- The rows of the output staging buffer numbered by `c`: where `c`'s own half, or what it sends, is placed. -/
abbrev rowsM (c : Dev nD) : Memref sig .tc .vmem S256x256 .f32 := oM.slice (rowsR c) (fun _ => rfl)
/-- The columns of the input staging buffer that `c` sends to its mate. -/
abbrev sentM (c : Dev nD) : Memref sig .tc .vmem S256x256 .f32 := xM.slice (sentR c) (fun _ => rfl)

/-! ## Which elements they hold -/

/-- An output element lies in the rows of `c` exactly when its row's half is `c`'s first coordinate. -/
theorem mem_rows (c : Dev nD) (i : S512x256.Idx) : i ∈ (rowsM c).view.set ↔ (i 0).val / 256 = c.val / 8 := by
  have h0 : (i 0).val < 512 := (i 0).isLt
  have h1 : (i 1).val < 256 := (i 1).isLt
  have hc := coord_le c
  show i ∈ ((View.whole cc0_stg1_0).slice (rowsR c)).set ↔ _
  rw [View.set_slice_whole, Rect.mem_set_unit, k0_off1_eq]
  refine (Fin.forall_fin_two (p := fun a : Fin 2 => _ ≤ (i a).val ∧ (i a).val < _ + S256x256.size a)).trans ?_
  show (256 * (c.val / 8) ≤ (i 0).val ∧ (i 0).val < 256 * (c.val / 8) + 256) ∧ (0 ≤ (i 1).val ∧ (i 1).val < 0 + 256) ↔ _
  omega

/-- The rows `c` stores into are its rows. -/
theorem stored_set (c : Dev nD) : (oM.access (storedR c)).set = (rowsM c).view.set := by
  have h : k0_off4 c = k0_off1 c := (k0_off4_eq c).trans (k0_off1_eq c).symm
  simp only [storedR, rowsM, rowsR, h]
  rfl

/-- The mate's rows are all the others. -/
theorem rows_mate (c : Dev nD) : (rowsM (mate c)).view.set = Finset.univ \ (rowsM c).view.set := by
  ext i
  have h0 : ((i : S512x256.Idx) 0).val < 512 := ((i : S512x256.Idx) 0).isLt
  have hc := coord_le c
  rw [Finset.mem_sdiff, mem_rows, mem_rows, mate_coord]
  simp only [Finset.mem_univ, true_and]
  omega

/-- An input element lies in the columns `c` sends exactly when its column's half is not `c`'s first coordinate. -/
theorem mem_sent (c : Dev nD) (i : S256x512.Idx) : i ∈ (sentM c).view.set ↔ (i 1).val / 256 ≠ c.val / 8 := by
  have h0 : (i 0).val < 256 := (i 0).isLt
  have h1 : (i 1).val < 512 := (i 1).isLt
  have hc := coord_le c
  show i ∈ ((View.whole cc0_stg0_0).slice (sentR c)).set ↔ _
  rw [View.set_slice_whole, Rect.mem_set_unit, k0_off2_eq]
  refine (Fin.forall_fin_two (p := fun a : Fin 2 => _ ≤ (i a).val ∧ (i a).val < _ + S256x256.size a)).trans ?_
  show (0 ≤ (i 0).val ∧ (i 0).val < 0 + 256) ∧ (256 - 256 * (c.val / 8) ≤ (i 1).val ∧ (i 1).val < 256 - 256 * (c.val / 8) + 256) ↔ _
  omega

/-- The columns `c` keeps are none of those it sends. -/
theorem kept_subset (c : Dev nD) : xM.view.setOn (keptR c).toLoadRect.set ⊆ Finset.univ \ (sentM c).view.set := by
  intro i hi
  rw [Finset.mem_sdiff, mem_sent]
  refine ⟨Finset.mem_univ _, not_not.mpr ?_⟩
  obtain ⟨x, hx, rfl⟩ := Finset.mem_map.mp hi
  have hx' := Rect.mem_set_unit.mp hx 1
  rw [k0_off3_eq] at hx'
  change 256 * (c.val / 8) ≤ (x 1).val ∧ (x 1).val < 256 * (c.val / 8) + 256 at hx'
  show (x 1).val / 256 = c.val / 8
  omega

/-! ## What is written into them -/

variable {F : FTy → Type} [FloatOps F]

/-- Contents of the input staging buffer. -/
abbrev InBlk (F : FTy → Type) : Type := (cc0_stg0_0 : Ref sig .tc).ty.Contents (Elt F)
/-- Contents of the output staging buffer. -/
abbrev OutBlk (F : FTy → Type) : Type := (cc0_stg1_0 : Ref sig .tc).ty.Contents (Elt F)

/-- An index of the input block from its row and column. -/
abbrev inIx (r : Fin 256) (j : Fin 512) : S256x512.Idx := Shape.pair (d := ![256, 512]) r j

/-- What the output block of device `c` ends holding when each device `d` starts with input block `X d`: its row `i`
    comes from the device of its pair whose first coordinate is the row's half, that device's row `i % 256`, of which
    it holds the 256 columns numbered by `c`'s first coordinate. -/
def exchanged (X : Dev nD → InBlk F) (c : Dev nD) : OutBlk F := fun i : S512x256.Idx =>
  X (if (i 0).val / 256 = c.val / 8 then c else mate c)
    (inIx ⟨(i 0).val % 256, Nat.mod_lt _ (by decide)⟩
      ⟨256 * (c.val / 8) + (i 1).val, by have := coord_le c; have h1 : (i 1).val < 256 := (i 1).isLt; omega⟩)

/-- Where an index of the rows' window lies in the output block. -/
theorem rows_emb (c : Dev nD) (y : S256x256.Idx) :
    (((rowsM c).view.emb y : S512x256.Idx) 0).val = 256 * (c.val / 8) + (y 0).val
      ∧ (((rowsM c).view.emb y : S512x256.Idx) 1).val = (y 1).val := by
  constructor
  · show k0_off1 c 0 + 1 * (y 0).val = _
    rw [k0_off1_eq]; show 256 * (c.val / 8) + 1 * _ = _; omega
  · show k0_off1 c 1 + 1 * (y 1).val = _
    rw [k0_off1_eq]; show 0 + 1 * _ = _; omega

/-- What the columns `c` sends hold, read through their window. -/
theorem sent_read (X : InBlk F) (c : Dev nD) (y : S256x256.Idx) :
    (sentM c).view.read (Elt F) X y
      = X (inIx (y 0) ⟨256 - 256 * (c.val / 8) + (y 1).val, by have := coord_le c; have h1 : (y 1).val < 256 := (y 1).isLt; omega⟩) := by
  show X ((sentM c).view.emb y) = _
  refine congrArg X (Shape.idx_ext₂ ?_ ?_)
  · show k0_off2 c 0 + 1 * (y 0).val = (y 0).val
    rw [k0_off2_eq]; show 0 + 1 * _ = _; omega
  · show k0_off2 c 1 + 1 * (y 1).val = 256 - 256 * (c.val / 8) + (y 1).val
    rw [k0_off2_eq]; show 256 - 256 * (c.val / 8) + 1 * _ = _; omega

/-- What the load of the columns `c` keeps yields. -/
theorem kept_read (X : InBlk F) (c : Dev nD) (y : S256x256.Idx) :
    xM.view.readAt (Elt F) (keptR c).toLoadRect X y
      = X (inIx (y 0) ⟨256 * (c.val / 8) + (y 1).val, by have := coord_le c; have h1 : (y 1).val < 256 := (y 1).isLt; omega⟩) := by
  show X ((keptR c).emb y) = _
  refine congrArg X (Shape.idx_ext₂ ?_ ?_)
  · show k0_off3 c 0 + 1 * (y 0).val = (y 0).val
    rw [k0_off3_eq]; show 0 + 1 * _ = _; omega
  · show k0_off3 c 1 + 1 * (y 1).val = 256 * (c.val / 8) + (y 1).val
    rw [k0_off3_eq]; show 256 * (c.val / 8) + 1 * _ = _; omega

/-- The copy from `c` leaves, in the rows it lands in on the mate, what the mate's output block ends holding there. -/
theorem landed_eq (X : Dev nD → InBlk F) (c : Dev nD) (f : OutBlk F) (i : S512x256.Idx) (hi : i ∈ (rowsM c).view.set) :
    (rowsM c).view.write (Elt F) f ((sentM c).view.read (Elt F) (X c)) Finset.univ i = exchanged X (mate c) i := by
  obtain ⟨y, -, rfl⟩ := Finset.mem_map.mp hi
  obtain ⟨e0, e1⟩ := rows_emb c y
  have hy : (y 0).val < 256 := (y 0).isLt
  have hc := coord_le c
  refine ((rowsM c).view.write_emb_of_mem f _ (Finset.mem_univ y)).trans ?_
  rw [sent_read]
  show X c _ = X (if _ then _ else _) _
  rw [if_neg (by rw [e0, mate_coord]; omega), mate_mate]
  refine congrArg (X c) (Shape.idx_ext₂ ?_ ?_)
  · show (y 0).val = (((rowsM c).view.emb y : S512x256.Idx) 0).val % 256
    rw [e0]; omega
  · show 256 - 256 * (c.val / 8) + (y 1).val = 256 * ((mate c).val / 8) + (((rowsM c).view.emb y : S512x256.Idx) 1).val
    rw [e1, mate_coord]; omega

/-- The store on `c` leaves, in its rows, what `c`'s output block ends holding there. -/
theorem stored_eq (X : Dev nD → InBlk F) (c : Dev nD) (f : OutBlk F) (i : S512x256.Idx) (hi : i ∈ (rowsM c).view.set) :
    (oM.access (storedR c)).write (Elt F) f (k0_pay1 (xM.view.readAt (Elt F) (keptR c).toLoadRect (X c))) Finset.univ i
      = exchanged X c i := by
  rw [← stored_set] at hi
  obtain ⟨y, -, rfl⟩ := Finset.mem_map.mp hi
  have e0 : (((oM.access (storedR c)).emb y : S512x256.Idx) 0).val = 256 * (c.val / 8) + (y 0).val := by
    show k0_off4 c 0 + 1 * (y 0).val = _
    rw [k0_off4_eq]; show 256 * (c.val / 8) + 1 * _ = _; omega
  have e1 : (((oM.access (storedR c)).emb y : S512x256.Idx) 1).val = (y 1).val := by
    show k0_off4 c 1 + 1 * (y 1).val = _
    rw [k0_off4_eq]; show 0 + 1 * _ = _; omega
  have hy : (y 0).val < 256 := (y 0).isLt
  refine ((oM.access (storedR c)).write_emb_of_mem f _ (Finset.mem_univ y)).trans ?_
  refine (cast_eq _ _).trans ?_
  unfold k0_pay1
  rw [shapeCast_self, kept_read]
  show X c _ = X (if _ then _ else _) _
  rw [if_pos (by rw [e0]; omega)]
  refine congrArg (X c) (Shape.idx_ext₂ ?_ ?_)
  · show (y 0).val = (((oM.access (storedR c)).emb y : S512x256.Idx) 0).val % 256
    rw [e0]; omega
  · show 256 * (c.val / 8) + (y 1).val = 256 * (c.val / 8) + (((oM.access (storedR c)).emb y : S512x256.Idx) 1).val
    rw [e1]

end Cert.Exchange
-- ==== Proof.Protocol.lean ====
/-
How mates synchronise.

Every device has three semaphores the exchange uses, each raised once and waited for once. Raising one hands its
owner something: the barrier semaphore, raised by the mate, hands over the mate's output rows in which the owner's
copy will land; the send semaphore, raised when the owner's copy has been read, hands back the columns it sent; the
receive semaphore, raised when the mate's copy has landed, hands over the owner's rows the copy filled. This module
states that as a schedule of one round, with what each device owes at the start and the order in which semaphores
may be waited for.
-/
module

public import proofs.«01_k».proof.Proof.Halves
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds for the staging of blocks, one for the exchange. -/
abbrev UU : Type := UR sig nD τ × UR sig nD τ

local notation "𝕄" => MT nD τ sig Unit (Elt F) ℕ UU ℕ

/-- Where the ghost state of the staging copies lies. -/
abbrev EP : Emb (UR sig nD τ) (MT nD τ sig Unit (Elt F) ℕ UU ℕ) := embL
/-- Where the ghost state of the exchange lies. -/
abbrev EX : Emb (UR sig nD τ) (MT nD τ sig Unit (Elt F) ℕ UU ℕ) := embR

/-! ## The semaphores -/

/-- The barrier semaphore of the kernel's collective. -/
abbrev barS : Sem sig := (SemArray.scalar (sig.barrier 0 rfl) : Sems sig S_).sem

/-- The three semaphores: barrier, send, receive. -/
abbrev csem : Fin 3 → SemLoc sig
  | 0 => .reg barS
  | 1 => .dma cc0_scratch0.sem
  | 2 => .dma cc0_scratch1.sem

/-- Semaphore `k` of device `c`. -/
abbrev cell (c : Dev nD) (k : Fin 3) : GSem nD τ sig := ((c : Thread nD τ), csem k)

/-- Which of the three a semaphore is, if any. -/
def role (s : SemLoc sig) : Option (Fin 3) :=
  if s = csem 0 then some 0 else if s = csem 1 then some 1 else if s = csem 2 then some 2 else none

/-- The role of the semaphore of role `k` is `k`. -/
theorem role_csem (k : Fin 3) : role (csem k) = some k := by revert k; decide

/-- Different roles have different semaphores. -/
theorem csem_injective : Function.Injective csem := fun a b h =>
  Option.some.inj ((role_csem a).symm.trans ((congrArg role h).trans (role_csem b)))

/-- Different devices or roles have different semaphores. -/
theorem cell_injective : Function.Injective (fun ck : Dev nD × Fin 3 => cell ck.1 ck.2) := fun _ _ h =>
  Prod.ext (congrArg (fun g : GSem nD τ sig => g.1.1) h) (csem_injective (congrArg Prod.snd h))

/-- Semaphores of different roles differ, whichever the devices. -/
theorem cell_ne {a b : Dev nD} {k l : Fin 3} (h : k ≠ l) : cell a k ≠ cell b l := fun e =>
  h (csem_injective (congrArg Prod.snd e))

/-- What a copy of one half credits its semaphores with. -/
abbrev credit : ℕ := (rowsM 0).view.dmaCredit

/-- A copy of one half credits its semaphores with something. -/
theorem credit_pos : 0 < credit := View.dmaCredit_pos _ (by decide)

/-- How far each semaphore is raised. -/
def units : Fin 3 → ℕ
  | 0 => 1
  | 1 => credit
  | 2 => credit

/-- Every semaphore is raised by something. -/
theorem units_pos : ∀ k, 0 < units k
  | 0 => Nat.one_pos
  | 1 => credit_pos
  | 2 => credit_pos

/-! ## What is handed over -/

/-- The rows numbered by `r`'s first coordinate in the output block of device `c`, holding `f`. -/
def rowsAt (r c : Dev nD) (f : OutBlk F) : sProp 𝕄 :=
  (rowsM r).view.loc (c : Thread nD τ) ↦[(rowsM r).view.set]{fullShare} f

/-- The columns device `c` sends, holding `f`. -/
def sentAt (c : Dev nD) (f : InBlk F) : sProp 𝕄 :=
  (sentM c).view.loc (c : Thread nD τ) ↦[(sentM c).view.set]{fullShare} f

omit [FloatOps F] in
/-- Half of an output buffer can be handed over through a semaphore. -/
instance rowsAt_storable (r c : Dev nD) (f : OutBlk F) : BI.Storable (upEmb : UEmb _ 𝕄) (rowsAt r c f) := by
  unfold rowsAt; infer_instance
omit [FloatOps F] in
/-- Half of an input buffer can be handed over through a semaphore. -/
instance sentAt_storable (c : Dev nD) (f : InBlk F) : BI.Storable (upEmb : UEmb _ 𝕄) (sentAt c f) := by
  unfold sentAt; infer_instance

variable (X : Dev nD → InBlk F)

/-- What raising semaphore `k` of device `c` hands to `c`. -/
def handed : Fin 3 → Dev nD → sProp 𝕄
  | 0, c => iprop(∃ f, rowsAt c (mate c) f)
  | 1, c => sentAt c (X c)
  | 2, c => rowsAt (mate c) c (exchanged X c)

omit [FloatOps F] in
/-- What each role hands over can be kept by its semaphore. -/
instance handed_storable : ∀ (k : Fin 3) (c : Dev nD), BI.Storable (upEmb : UEmb _ 𝕄) (handed X k c)
  | 0, c => by unfold handed; infer_instance
  | 1, c => by unfold handed; infer_instance
  | 2, c => by unfold handed; infer_instance

/-- One round, in which each of the three semaphores of each device is raised once. -/
def plan : Rounds.Schedule (GSem nD τ sig) Unit 𝕄 where
  duties g r := if r = 0 ∧ g.1.2 = .tc ∧ (role g.2).isSome then {()} else ∅
  unitless _ := False
  amount g _ _ := (role g.2).elim 1 units
  payload g _ _ := (role g.2).elim iprop(emp) fun k => handed X k g.1.1
  amount_pos g _ _ _ := by
    cases role g.2 with
    | none => exact Nat.one_pos
    | some k => exact units_pos k

omit [FloatOps F] in
/-- Everything the schedule hands over can be kept by its semaphore. -/
instance plan_storable (g : GSem nD τ sig) (r : ℕ) (d : Unit) : BI.Storable (upEmb : UEmb _ 𝕄) ((plan X).payload g r d) := by
  show BI.Storable upEmb ((role g.2).elim iprop(emp) fun k => handed X k g.1.1)
  cases role g.2 with
  | none => exact inferInstanceAs (BI.Storable upEmb iprop(emp))
  | some k => exact handed_storable X k g.1.1

omit [FloatOps F] in
/-- In the first round each semaphore of the exchange is raised once. -/
theorem plan_duties (c : Dev nD) (k : Fin 3) : (plan X).duties (cell c k) 0 = {()} :=
  if_pos ⟨rfl, rfl, by rw [role_csem]; rfl⟩

omit [FloatOps F] in
/-- No round after the first asks for anything. -/
theorem plan_later (g : GSem nD τ sig) (r : ℕ) (hr : 1 ≤ r) : (plan X).duties g r = ∅ :=
  if_neg fun h => by have := h.1; omega

omit [FloatOps F] in
/-- That one raise is among the duties of the first round. -/
theorem plan_mem (c : Dev nD) (k : Fin 3) : () ∈ (plan X).duties (cell c k) 0 := by
  rw [plan_duties]; exact Finset.mem_singleton_self _

omit [FloatOps F] in
/-- It raises the semaphore by the units of its role. -/
theorem plan_amount (c : Dev nD) (k : Fin 3) : (plan X).amount (cell c k) 0 () = units k := by
  show (role (csem k)).elim 1 units = _; rw [role_csem]; rfl

omit [FloatOps F] in
/-- It hands over what the role says. -/
theorem plan_payload (c : Dev nD) (k : Fin 3) : (plan X).payload (cell c k) 0 () = handed X k c := by
  show (role (csem k)).elim iprop(emp) (fun k => handed X k c) = _; rw [role_csem]; rfl

omit [FloatOps F] in
/-- The first round of a semaphore ends at the units of its role. -/
theorem plan_expect (c : Dev nD) (k : Fin 3) : (plan X).expect (cell c k) 0 = units k := by
  unfold Schedule.expect Schedule.amountOf
  rw [plan_duties, Finset.sum_singleton, plan_amount]

omit [FloatOps F] in
/-- Everything the round of a semaphore hands over. -/
theorem plan_rest (c : Dev nD) (k : Fin 3) :
    bigSep ((plan X).duties (cell c k) 0 \ ∅) (fun u => (plan X).payload (cell c k) 0 u) = handed X k c := by
  rw [Finset.sdiff_empty, plan_duties, bigSep_singleton, plan_payload]

/-! ## What is owed, and the order of waiting -/

/-- A device owes its mate a copy. -/
def owedCopy (c : Dev nD) : CellTallies nD τ sig Unit := tallyAt (cell (mate c) 2) () credit

/-- At the start a device owes its mate a copy and a signal. -/
def owedAll (c : Dev nD) : CellTallies nD τ sig Unit := owedCopy c + tallyAt (cell (mate c) 0) () 1

/-- The semaphores whose waits are ordered: those of the TensorCores. -/
def tcOnly (g : GSem nD τ sig) : Finset Unit := if g.1.2 = .tc then {()} else ∅

/-- The order: a wait on a semaphore is allowed while only higher ones are owed. -/
def height (g : GSem nD τ sig) (_ : Unit) : ℕ := match role g.2 with
  | some 0 => 1
  | some 2 => 2
  | _ => 0

/-- No level is given to semaphores of other cores. -/
theorem tcOnly_of_ne (g : GSem nD τ sig) (h : g.1.2 ≠ .tc) : tcOnly g = ∅ := if_neg h
/-- Every semaphore of a tensor core has a level. -/
theorem tcOnly_tc (c : Dev nD) (s : SemLoc sig) : () ∈ tcOnly ((c : Thread nD τ), s) := by
  show () ∈ (if _ then _ else _); rw [if_pos rfl]; exact Finset.mem_singleton_self _

/-- The barrier stands at level 1, the receive semaphore at level 2, the send semaphore at level 0. -/
theorem height_cell (c : Dev nD) (k : Fin 3) : height (cell c k) () = if k = 0 then 1 else if k = 2 then 2 else 0 := by
  unfold height; rw [role_csem]; revert k; decide

/-- The copy owes only to the mate's receive semaphore. -/
theorem owedCopy_pos {c : Dev nD} {g : GSem nD τ sig} {u : Unit} (h : 0 < owedCopy c g u) : g = cell (mate c) 2 := by
  unfold owedCopy at h
  rw [tallyAt_apply] at h
  by_contra hn
  rw [if_neg fun h' => hn h'.1] at h
  exact Nat.lt_irrefl 0 h

/-- At the start a device owes only to its mate's receive semaphore and barrier. -/
theorem owedAll_pos {c : Dev nD} {g : GSem nD τ sig} {u : Unit} (h : 0 < owedAll c g u) :
    g = cell (mate c) 2 ∨ g = cell (mate c) 0 := by
  unfold owedAll at h
  rw [Pi.add_apply, Finsupp.add_apply] at h
  rcases Nat.eq_zero_or_pos (owedCopy c g u) with h0 | h0
  · rw [h0, Nat.zero_add, tallyAt_apply] at h
    by_contra hn
    rw [if_neg fun h' => hn (.inr h'.1)] at h
    exact Nat.lt_irrefl 0 h
  · exact .inl (owedCopy_pos h0)

omit [FloatOps F] in
/-- A device may wait on its semaphore `s` while everything it owes is higher than `n`, when `s` is not. -/
theorem mayWait_of_height (c : Dev nD) (s : SemLoc sig) (n : ℕ) (O : CellTallies nD τ sig Unit)
    (hs : height ((c : Thread nD τ), s) () ≤ n)
    (hO : ∀ g u, 0 < O g u → ∃ k, g = cell (mate c) k ∧ n < height (cell (mate c) k) ()) :
    (levAts tcOnly height : sProp 𝕄) ⊢ MayWait (c : Thread nD τ) s () O :=
  MayOwe.of_cut (L := tcOnly) (lev := height) n
    (fun p hp => by rw [Finset.mem_singleton.mp hp]; exact tcOnly_tc c s)
    (fun g u hg => by obtain ⟨k, rfl, -⟩ := hO g u hg; exact tcOnly_tc (mate c) (csem k))
    (fun p hp => by rw [Finset.mem_singleton.mp hp]; exact hs)
    (fun g u hg => by obtain ⟨k, rfl, h⟩ := hO g u hg; exact h)

omit [FloatOps F] in
/-- A device may wait for its barrier while it owes the copy. -/
theorem mayWait_barrier (c : Dev nD) : (levAts tcOnly height : sProp 𝕄) ⊢ MayWait (c : Thread nD τ) (csem 0) () (owedCopy c) :=
  mayWait_of_height c _ 1 _ (by rw [height_cell c 0, if_pos rfl])
    fun g u h => ⟨2, owedCopy_pos h, by rw [height_cell]; decide⟩

omit [FloatOps F] in
/-- A device may wait for a block's staging, whatever it owes. -/
theorem mayWait_staging (c : Dev nD) (s : SemLoc sig) (hs : role s = none) (O : CellTallies nD τ sig Unit) (hO : O = owedAll c ∨ O = 0) :
    (levAts tcOnly height : sProp 𝕄) ⊢ MayWait (c : Thread nD τ) s () O := by
  refine mayWait_of_height c s 0 O (by unfold height; rw [hs]) fun g u h => ?_
  rcases hO with rfl | rfl
  · rcases owedAll_pos h with rfl | rfl
    · exact ⟨2, rfl, by rw [height_cell]; decide⟩
    · exact ⟨0, rfl, by rw [height_cell]; decide⟩
  · exact absurd h (Nat.lt_irrefl 0)

end Cert.Exchange
-- ==== Proof.Body.lean ====
/-
One device's run of the kernel.

From its two staging buffers and its part of the schedule, a device signals its mate with the rows the mate will copy
into, waits for the mate's signal, starts the copy of the columns it sends, moves the columns it keeps into its own
rows, and waits for both copies. It ends with its input as it was and its output exchanged.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no loop, so no measure of progress is needed. -/
abbrev 𝒱₀ : Variants := Variants.none

/-! ## The staging buffers in halves -/

/-- The input staging buffer of `c` holding `f`. -/
abbrev inputAt (c : Dev nD) (f : InBlk F) : sProp 𝕄 := ((c : Thread nD τ).loc cc0_stg0_0) ↦{fullShare} f
/-- The output staging buffer of `c` holding `f`. -/
abbrev outputAt (c : Dev nD) (f : OutBlk F) : sProp 𝕄 := ((c : Thread nD τ).loc cc0_stg1_0) ↦{fullShare} f

/-- The columns `c` keeps, holding `f`. -/
def keptAt (c : Dev nD) (f : InBlk F) : sProp 𝕄 :=
  xM.view.loc (c : Thread nD τ) ↦[Finset.univ \ (sentM c).view.set]{fullShare} f

omit [FloatOps F] in
/-- The input buffer is the columns sent and the columns kept. -/
theorem input_halves (c : Dev nD) (f : InBlk F) : inputAt c f ⊣⊢ iprop(sentAt c f ∗ keptAt c f) := by
  unfold sentAt keptAt
  exact pointsTo_split_subset (Finset.subset_univ _)

omit [FloatOps F] in
/-- The output buffer is the rows of `c` and the rows of its mate. -/
theorem output_halves (c : Dev nD) (f : OutBlk F) : outputAt c f ⊣⊢ iprop(rowsAt c c f ∗ rowsAt (mate c) c f) := by
  unfold rowsAt
  rw [rows_mate]
  exact pointsTo_split_subset (Finset.subset_univ _)

variable (X : Dev nD → InBlk F)

omit [FloatOps F] in
/-- Rows are known by what they hold on themselves. -/
theorem rowsAt_congr (r c : Dev nD) {f g : OutBlk F} (h : ∀ i : S512x256.Idx, i ∈ (rowsM r).view.set → f i = g i) :
    (rowsAt r c f : sProp 𝕄) = rowsAt r c g := pointsTo_congr h

omit [FloatOps F] in
/-- The mate's rows on `c` are what `c` hands over with its signal. -/
theorem rows_offered (c : Dev nD) (f : OutBlk F) : rowsAt (mate c) c f ⊢ (plan X).payload (cell (mate c) 0) 0 () := by
  have h : rowsAt (mate c) c f ⊢ (iprop(∃ f, rowsAt (mate c) (mate (mate c)) f) : sProp 𝕄) := by
    rw [mate_mate]
    iintro H; iexists f; iexact H
  rw [plan_payload]
  exact h

/-- Once `c` has copied its columns over them, its rows on the mate are what the mate is handed with the copy. -/
theorem rows_landed (c : Dev nD) (f : OutBlk F) :
    ((rowsM c).view.loc (mate c : Thread nD τ) ↦[(rowsM c).view.set]{fullShare}
        (rowsM c).view.write (Elt F) f ((sentM c).view.read (Elt F) (X c)) Finset.univ)
      ⊢ (plan X).payload (cell (mate c) 2) 0 () := by
  have h : rowsAt c (mate c) (exchanged X (mate c)) ⊢ (rowsAt (mate (mate c)) (mate c) (exchanged X (mate c)) : sProp 𝕄) := by
    rw [mate_mate]
  rw [plan_payload]
  exact (Entails.of_eq (rowsAt_congr c (mate c) (landed_eq X c f))).trans h

/-- Once `c` has stored the columns it keeps over them, its own rows hold their part of the exchanged output. -/
theorem rows_stored (c : Dev nD) (f : OutBlk F) :
    (oM.view.loc (c : Thread nD τ) ↦[(rowsM c).view.set]{fullShare}
        (oM.access (storedR c)).write (Elt F) f (k0_pay1 (xM.view.readAt (Elt F) (keptR c).toLoadRect (X c))) Finset.univ)
      ⊢ (rowsAt c c (exchanged X c) : sProp 𝕄) :=
  Entails.of_eq (rowsAt_congr c c (stored_eq X c f))

/-! ## A device's part of the schedule -/

variable (K : Dev nD × Fin 3 → ℕ)

/-- What device `c` knows throughout: the schedule governs its three semaphores and its mate's barrier and receive
    semaphores, and the round of those it raises is open. -/
def known (c : Dev nD) : sProp 𝕄 :=
  iprop(cellInv EX (plan X) (K (c, 0)) (cell c 0) ∗ cellInv EX (plan X) (K (c, 1)) (cell c 1) ∗ cellInv EX (plan X) (K (c, 2)) (cell c 2)
    ∗ cellInv EX (plan X) (K (mate c, 0)) (cell (mate c) 0) ∗ cellInv EX (plan X) (K (mate c, 2)) (cell (mate c) 2)
    ∗ reached EX (cell c 1) 0 ∗ reached EX (cell (mate c) 0) 0 ∗ reached EX (cell (mate c) 2) 0)

/-- What is known of the semaphores may be used again and again. -/
instance known_persistent (c : Dev nD) : BI.Persistent (known X K c) := by unfold known; infer_instance

/-- Device `c` has taken nothing from its three semaphores. -/
def unread (c : Dev nD) : sProp 𝕄 :=
  iprop(atPos EX (cell c 0) 0 ∅ 0 ∗ atPos EX (cell c 1) 0 ∅ 0 ∗ atPos EX (cell c 2) 0 ∅ 0)

/-- Device `c` may raise its own send semaphore and its mate's barrier and receive semaphores. -/
def raises (c : Dev nD) : sProp 𝕄 :=
  iprop(dutyTok EX (cell c 1) 0 () ∗ dutyTok EX (cell (mate c) 0) 0 () ∗ dutyTok EX (cell (mate c) 2) 0 ())

/-- Others will raise `c`'s barrier and receive semaphores, and waits are ordered. -/
def awaited (c : Dev nD) : sProp 𝕄 :=
  iprop(cred (tallyAt (cell c 0) () 1) ∗ cred (tallyAt (cell c 2) () credit) ∗ levAts tcOnly height)

/-- The three semaphores of `c` are back at zero. -/
def zeroed (c : Dev nD) : sProp 𝕄 := iprop(semVal (cell c 0) 0 ∗ semVal (cell c 1) 0 ∗ semVal (cell c 2) 0)

/-! ## The copy -/

/-- The copy to the mate, given the columns `c` sends and the mate's rows: it discharges what `c` owes, and its send
    semaphore will be raised. -/
theorem wp_copy (c n : Dev nD) (hn : n = mate c) {hsc : (rowsM c : Memref sig (Dev.tc n : Thread nD τ).2.kind .vmem S256x256 .f32).view.ref.isScScratch = false}
    {hsrc : (sentM c).view.WordExact} {hdst : (rowsM c).view.WordExact}
    {hsem : DmaTarget.Typed .vmem (csem 2) (.remote (Dev.tc n : Thread nD τ) (rowsM c : Memref sig .tc .vmem S256x256 .f32) (csem 1) hsc)}
    {α : Type} {Q : α → sProp 𝕄} {k : PUnit → Prog (TpuEff nD τ sig (Elt F) Λ₀ .tc) α} (f : OutBlk F) (W : Waits sig Unit) :
    iprop(cellInv EX (plan X) (K (c, 1)) (cell c 1) ∗ cellInv EX (plan X) (K (mate c, 2)) (cell (mate c) 2)
        ∗ sentAt c (X c) ∗ rowsAt c (mate c) f ∗ owes (c : Thread nD τ) (owedCopy c) W
        ∗ dutyTok EX (cell c 1) 0 () ∗ reached EX (cell c 1) 0 ∗ dutyTok EX (cell (mate c) 2) 0 () ∗ reached EX (cell (mate c) 2) 0)
      ⊢ iprop(((cred (tallyAt (cell c 1) () credit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sentM c) (.remote (Dev.tc n : Thread nD τ) (rowsM c) (csem 1) hsc) (csem 2) hsrc hdst hsem) k) Q) := by
  subst hn
  unfold sentAt rowsAt
  exact Rounds.wp_send_pointsTo 𝒱₀ EX (plan X) (c : Thread nD τ) none (κ₁ := K (c, 1)) (κ₂ := K (mate c, 2))
    (c' := (mate c : Thread nD τ)) (src := sentM c) (dst := rowsM c) (q := fullShare) (fs := X c) (fd := f)
    (plan_mem X c 1) (plan_mem X (mate c) 2) () () credit rfl (plan_amount X c 1) (plan_amount X (mate c) 2)
    0 (zero_add _).symm (W := W) (by rw [plan_payload]; exact BI.Entails.refl _) (rows_landed X c f)

/-! ## Closing the semaphores -/

omit [FloatOps F] in
/-- A semaphore whose round has been taken is back at zero. -/
theorem close_cell (κ : ℕ) (c : Dev nD) (k : Fin 3) :
    iprop(cellInv EX (plan X) κ (cell c k) ∗ atPos EX (cell c k) (0 + 1) ∅ 0) ⊢ (|={Set.univ}=> semVal (cell c k) 0 : sProp 𝕄) :=
  Rounds.cell_close EX (plan X) (Set.mem_univ κ) (fun h => h) (R := 0 + 1) (plan_later X (cell c k))

set_option maxHeartbeats 800000 in
/-- The kernel on device `c`, from staging buffers holding its input block `X c` and anything: it ends with its input
    block unchanged, its output block exchanged, its semaphores at zero and nothing owed. -/
theorem body_run (c : Dev nD) (f : OutBlk F) (W : Waits sig Unit) (Kt : PUnit → sProp 𝕄) :
    iprop((known X K c ∗ unread c ∗ raises c ∗ awaited c ∗ owes (c : Thread nD τ) (owedAll c) W ∗ inputAt c (X c) ∗ outputAt c f)
        ∗ ((zeroed c ∗ (∃ W', owes (c : Thread nD τ) 0 W') ∗ inputAt c (X c) ∗ outputAt c (exchanged X c)) -∗ Kt ⟨⟩))
      ⊢ wp frame (wpE (defs₀ (F := F)) 𝒱₀ c none) Set.univ
          (cc0_body xM (Memref.isWhole_whole _) oM (Memref.isWhole_whole _) cc0_scratch0 cc0_scratch1) Kt := by
  simp only [cc0_body_eq_skeleton, cc0_body_skel, k0_part1_eq_skeleton, k0_part1_skel]
  simp only [semSignalWord, semWaitWord, Prog.lift, Prog.bind_op, Prog.bind_ret, Prog.pure_eq_ret, wp_deviceId]
  iintro ⟨⟨#HK, Hpos, Hraise, Hawait, HO, Hx, Hout⟩, Hk⟩
  ihave HK' := (Entails.of_eq (by unfold known; rfl) : known X K c ⊢ iprop(cellInv EX (plan X) (K (c, 0)) (cell c 0)
      ∗ cellInv EX (plan X) (K (c, 1)) (cell c 1) ∗ cellInv EX (plan X) (K (c, 2)) (cell c 2)
      ∗ cellInv EX (plan X) (K (mate c, 0)) (cell (mate c) 0) ∗ cellInv EX (plan X) (K (mate c, 2)) (cell (mate c) 2)
      ∗ reached EX (cell c 1) 0 ∗ reached EX (cell (mate c) 0) 0 ∗ reached EX (cell (mate c) 2) 0)) $$ HK
  unfold unread raises awaited
  icases HK' with ⟨#I0, #I1, #I2, #J0, #J2, #R1, #S0, #S2⟩
  icases Hpos with ⟨P0, P1, P2⟩
  icases Hraise with ⟨T1, T0, T2⟩
  icases Hawait with ⟨C0, C2, #Hlev⟩
  ihave Hout' := (output_halves c f).1 $$ Hout
  icases Hout' with ⟨Hown, Hmate⟩
  ihave Hx' := (input_halves c (X c)).1 $$ Hx
  icases Hx' with ⟨Hsent, Hkept⟩
  -- the signal hands the mate its rows of this output block
  simp only [signal_dev c]
  iapply (Rounds.wp_signal 𝒱₀ EX (plan X) (c : Thread nD τ) none (dst := (mate c : Thread nD τ)) (κ := K (mate c, 0))
      (plan_mem X (mate c) 0) ((plan_amount X (mate c) 0).trans (by decide)) () (owedCopy c) rfl) $$ [HO T0 Hmate]
  · isplitr; · iexact J0
    isplitl [HO]; · iexact HO
    isplitl [T0]; · iexact T0
    isplitl [Hmate]
    · iapply (rows_offered X c f); iexact Hmate
    · iexact S0
  iintro HO
  -- the mate's signal hands over its rows
  iapply (Rounds.wp_wait_rest_token 𝒱₀ EX (plan X) (c : Thread nD τ) none (κ := K (c, 0))
      (wpE_semWait_eq 𝒱₀ (c : Thread nD τ) none Set.univ) (Set.mem_univ _) () (O := owedCopy c) (W := W) (R := 0) (m := 0) (T := ∅)
      (by rw [plan_expect X c 0]; decide)) $$ [C0 HO P0]
  · isplitr; · iexact I0
    isplitl [C0]; · iexact C0
    isplitl [HO]; · iexact HO
    isplitr; · iapply (mayWait_barrier c); iexact Hlev
    iexact P0
  iintro ⟨HO, P0, -, Hpay⟩
  ihave Hp := (Entails.of_eq (plan_rest X c 0)) $$ Hpay
  unfold handed
  icases Hp with ⟨%g, Hland⟩
  -- the copy
  iapply (wp_copy X K c _ (copy_dev c) g (insert (csem 0, ()) W)) $$ [Hsent Hland HO T1 T2]
  · isplitr; · iexact I1
    isplitr; · iexact J2
    isplitl [Hsent]; · iexact Hsent
    isplitl [Hland]; · iexact Hland
    isplitl [HO]; · iexact HO
    isplitl [T1]; · iexact T1
    isplitr; · iexact R1
    isplitl [T2]; · iexact T2
    iexact S2
  iintro ⟨C1, HO⟩
  -- the columns kept move into the device's own rows
  unfold keptAt
  iapply (wp_load 𝒱₀ (c : Thread nD τ) none Set.univ (m := xM) (kept_subset c)) $$ Hkept; iintro Hkept
  unfold rowsAt
  iapply (wp_load_rect 𝒱₀ (c : Thread nD τ) none Set.univ (m := oM) (r := storedR c) (stored_set c).subset) $$ Hown; iintro Hown
  iapply (wp_store 𝒱₀ (c : Thread nD τ) none Set.univ (m := oM) (r := storedR c) (Mk := Finset.univ) (stored_set c).subset) $$ Hown; iintro Hown
  ihave Hown' := (rows_stored X c f) $$ Hown
  -- the columns sent are back
  iapply (Rounds.wp_wait_rest_token 𝒱₀ EX (plan X) (c : Thread nD τ) none (κ := K (c, 1))
      (wpE_waitDma2_eq 𝒱₀ (c : Thread nD τ) none Set.univ) (Set.mem_univ _) () (O := 0) (W := insert (csem 0, ()) W) (R := 0) (m := 0) (T := ∅)
      (by rw [Nat.zero_add, plan_expect X c 1]; rfl)) $$ [C1 HO P1]
  · isplitr; · iexact I1
    isplitl [C1]; · iexact C1
    isplitl [HO]; · iexact HO
    isplitr; · rw [MayWait_zero]; iempintro
    iexact P1
  iintro ⟨HO, P1, -, Hpay⟩
  ihave Hsent := (Entails.of_eq (plan_rest X c 1)) $$ Hpay
  -- the mate's copy has landed
  iapply (Rounds.wp_wait_rest_token 𝒱₀ EX (plan X) (c : Thread nD τ) none (κ := K (c, 2))
      (wpE_waitDma2_eq 𝒱₀ (c : Thread nD τ) none Set.univ) (Set.mem_univ _) () (O := 0)
      (W := insert (csem 1, ()) (insert (csem 0, ()) W)) (R := 0) (m := 0) (T := ∅)
      (by rw [Nat.zero_add, plan_expect X c 2]; rfl)) $$ [C2 HO P2]
  · isplitr; · iexact I2
    isplitl [C2]; · iexact C2
    isplitl [HO]; · iexact HO
    isplitr; · rw [MayWait_zero]; iempintro
    iexact P2
  iintro ⟨HO, P2, -, Hpay⟩
  ihave Hmate := (Entails.of_eq (plan_rest X c 2)) $$ Hpay
  unfold handed
  imod (close_cell X (K (c, 0)) c 0) $$ [P0] with Z0
  · isplitr; · iexact I0
    iexact P0
  imod (close_cell X (K (c, 1)) c 1) $$ [P1] with Z1
  · isplitr; · iexact I1
    iexact P1
  imod (close_cell X (K (c, 2)) c 2) $$ [P2] with Z2
  · isplitr; · iexact I2
    iexact P2
  rw [wp_ret]; imodintro
  iapply Hk
  isplitl [Z0 Z1 Z2]
  · unfold zeroed
    isplitl [Z0]; · iexact Z0
    isplitl [Z1] <;> iassumption
  isplitl [HO]
  · iexists _; iexact HO
  isplitl [Hsent Hkept]
  · iapply (input_halves c (X c)).2
    unfold keptAt
    isplitl [Hsent] <;> iassumption
  · iapply (output_halves c (exchanged X c)).2
    isplitl [Hown'] <;> iassumption

end Cert.Exchange
-- ==== Proof.Step.lean ====
/-
The kernel's call as the pipeline runs it.

The call has one grid point: the input block is staged in whole, the kernel runs, the output block is written back
whole. This module says what each staging buffer holds around that point, and that the kernel's run takes it from
the one to the other.
-/
module

public import proofs.«01_k».proof.Proof.Body
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The block each device stages in: its part of the argument. -/
def staged (c : Dev nD) : InBlk F := (win0_0.blk (0 : Fin 1)).view.read (Elt F) (m ((c : Thread nD τ).loc main_arg0))

/-- Device `c`'s part of the schedule, dealt at launch. -/
def dealt (c : Dev nD) : sProp 𝕄 := iprop((∃ K, known (staged m) K c) ∗ unread c ∗ raises c)

/-- What device `c` enters the call with. -/
def entry (c : Dev nD) : sProp 𝕄 := iprop(dealt m c ∗ awaited c)

/-- The call's data: the arrays as launched; the input block staged and left as it is, the output block exchanged;
    what the device owes before the point, and nothing after. -/
def dats (_ : Fin 1) (c : Dev nD) : Dat τ (Elt F) Unit ℕ UU ℕ cfg0 c where
  A w := m ((cfg0.win w).arr.view.loc (c : Thread nD τ))
  after w _ := match w with
    | ⟨0, _⟩ => staged m c
    | ⟨1, _⟩ => exchanged (staged m) c
  Φ t := match t with
    | ⟨0, _⟩ => entry m c
    | ⟨_ + 1, _⟩ => zeroed c
  q _ := fullShare
  owed t := match t with
    | ⟨0, _⟩ => owedAll c
    | ⟨_ + 1, _⟩ => 0

omit [FloatOps F] in
/-- Holding a whole buffer through its window is holding the buffer. -/
theorem owns_whole (c : Dev nD) (b : Ref sig .tc) (v : b.ty.Contents (Elt F)) :
    (owns (Ix := Unit) (Name := ℕ) (U := UU) (Lvl := ℕ) (c : Thread nD τ) (Memref.whole b) fullShare v : sProp 𝕄)
      ⊣⊢ (((c : Thread nD τ).loc b) ↦{fullShare} v) := by
  unfold owns
  simp only [Memref.view_whole, View.read_whole, View.set_whole]
  constructor
  · iintro ⟨%f, %h, H⟩; subst h; iexact H
  · iintro H; iexists v
    isplitr; · (ipureintro; rfl)
    iexact H

/-- Before the point the input's staging buffer holds the device's block. -/
theorem before_input (c : Dev nD) (d : _) : (dats m 0 c).before (0 : Fin 2) t0_0 d = staged m c := by
  unfold Dat.before; rw [if_pos (fetch0_0 t0_0)]; rfl

/-- What the kernel runs from: the call's state before the point. -/
def pre (c : Dev nD) : sProp 𝕄 :=
  iprop(entry m c ∗ (dats m 0 c).owesAt () t0_0.castSucc
    ∗ (∃ d, owns (c : Thread nD τ) xM fullShare ((dats m 0 c).before (0 : Fin 2) t0_0 d))
    ∗ (∃ d, owns (c : Thread nD τ) oM fullShare ((dats m 0 c).before (1 : Fin 2) t0_0 d)))

/-- What it ends in: the call's state after the point. -/
def post (c : Dev nD) : sProp 𝕄 :=
  iprop(zeroed c ∗ (dats m 0 c).owesAt () t0_0.succ
    ∗ owns (c : Thread nD τ) xM fullShare (staged m c) ∗ owns (c : Thread nD τ) oM fullShare (exchanged (staged m) c))

/-- The kernel's run takes the call's state before the point to its state after. -/
theorem point_run (c : Dev nD) :
    pre m c ⊢ wp frame (wpE (defs₀ (F := F)) 𝒱₀ c none) Set.univ
      (cc0_body xM (Memref.isWhole_whole _) oM (Memref.isWhole_whole _) cc0_scratch0 cc0_scratch1) (fun _ => post m c) := by
  unfold pre entry dealt Dat.owesAt Pipeline.owesWithin
  rw [show (dats m 0 c).owed t0_0.castSucc = owedAll c from rfl]
  iintro ⟨⟨⟨⟨%K, #HK⟩, Hpos, Hraise⟩, Hawait⟩, ⟨%W, %hW, HO⟩, ⟨%d, Hx⟩, %e, Hout⟩
  rw [before_input]
  ihave Hx' := (owns_whole c cc0_stg0_0 (staged m c)).1 $$ Hx
  ihave Hout' := (owns_whole c cc0_stg1_0 _).1 $$ Hout
  iapply (body_run (staged m) K c ((dats m 0 c).before (1 : Fin 2) t0_0 e) W fun _ => post m c)
  isplitr []
  · isplitr; · iexact HK
    isplitl [Hpos]; · iexact Hpos
    isplitl [Hraise]; · iexact Hraise
    isplitl [Hawait]; · iexact Hawait
    isplitl [HO]; · iexact HO
    isplitl [Hx'] <;> iassumption
  · iintro ⟨Hz, ⟨%W', HO⟩, Hx, Hout⟩
    unfold post Dat.owesAt Pipeline.owesWithin
    rw [show (dats m 0 c).owed t0_0.succ = 0 from rfl]
    isplitl [Hz]; · iexact Hz
    isplitl [HO]
    · iexists W'
      isplitr; · ipureintro; exact fun _ _ => Or.inl trivial
      iexact HO
    isplitl [Hx]
    · iapply (owns_whole c cc0_stg0_0 (staged m c)).2; iexact Hx
    · iapply (owns_whole c cc0_stg1_0 (exchanged (staged m) c)).2; iexact Hout

/-- The pipeline's obligation on the kernel, on device `c`. -/
theorem body_obligation (c : Dev nD) : BodyObligation (dats m 0 c) (defs₀ (F := F)) 𝒱₀ () Set.univ := fun t => by
  rw [fin_N0 t, bigSep_W0, bigSep_W0]
  exact point_run m c

end Cert.Exchange
-- ==== Proof.Launch.lean ====
/-
The launch: every device's part of the schedule dealt, and the run of the whole program.

The three semaphores of every device start at zero, so the schedule can be put over all of them at once. Each device
then gets its own positions and the rights to raise its send semaphore and its mate's barrier and receive semaphores.
-/
module

public import proofs.«01_k».proof.Proof.Step
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and their ghost state -/

/-- The kernel's own semaphores: send, receive. -/
abbrev osem : Fin 2 → SemLoc sig := fun k => csem k.succ

/-- The send and receive semaphores are the kernel's own, distinct from the staging ones. -/
theorem ownSemFacts : Pipeline.OwnSemFacts cfg0.spec osem := by decide

/-- All the semaphores of the exchange. -/
def allCells : Finset (GSem nD τ sig) := Finset.univ.map ⟨_, cell_injective⟩
/-- Each may be raised once. -/
def allToks : Finset (GSem nD τ sig × ℕ × Unit) := allCells.map ⟨fun g => (g, 0, ()), fun _ _ h => congrArg Prod.fst h⟩

/-- The ghost state at launch: the staging's, and the exchange's. -/
def u₀ : UU := (initOf (Pipeline.cells cfgs cellOf_inj) (Pipeline.launchToks cfgs cellOf_inj), initOf allCells allToks)

omit [FloatOps F] in
/-- A conjunction over the three roles, written out. -/
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A conjunction over all the semaphores goes device by device, then role by role. -/
theorem over_cells (Φ : GSem nD τ sig → sProp 𝕄) :
    bigSep allCells Φ = bigSep Finset.univ fun c : Dev nD => bigSep Finset.univ fun k : Fin 3 => Φ (cell c k) := by
  unfold allCells; rw [bigSep_map, bigSep_univ_prod]; rfl

omit [FloatOps F] in
/-- The permissions to raise go device by device, then role by role. -/
theorem over_toks : bigSep allToks (fun x => (dutyTok EX x.1 x.2.1 x.2.2 : sProp 𝕄))
    = bigSep Finset.univ fun c : Dev nD => bigSep Finset.univ fun k : Fin 3 => dutyTok EX (cell c k) 0 () := by
  unfold allToks; rw [bigSep_map]; exact over_cells fun g => dutyTok EX g 0 ()

/-- Device `c`'s semaphores as the ghost state comes: nothing taken, nothing raised. -/
def fresh (c : Dev nD) : sProp 𝕄 :=
  iprop((bigSep Finset.univ fun k : Fin 3 => roundState EX (plan (staged m)) (cell c k) 0)
    ∗ (bigSep Finset.univ fun k : Fin 3 => atPos EX (cell c k) 0 ∅ 0)
    ∗ (bigSep Finset.univ fun k : Fin 3 => reached EX (cell c k) 0)
    ∗ (bigSep Finset.univ fun k : Fin 3 => dutyTok EX (cell c k) 0 ()))

/-- The exchange's ghost state is every device's fresh semaphores. -/
theorem fund_cells : BI.own (EX (initOf allCells allToks)) ⊢ (|==> bigSep Finset.univ (fresh m) : sProp 𝕄) := by
  iintro H
  imod (Rounds.fund EX (plan (staged m)) allCells allToks) $$ H with ⟨Hst, Hr, Hat, Htok⟩
  imodintro
  ihave Hst := (Entails.of_eq (over_cells fun g => roundState EX (plan (staged m)) g 0)) $$ Hst
  ihave Hat := (Entails.of_eq (over_cells fun g => atPos EX g 0 ∅ 0)) $$ Hat
  ihave Hr := (Entails.of_eq (over_cells fun g => reached EX g 0)) $$ Hr
  ihave Htok := (Entails.of_eq over_toks) $$ Htok
  unfold fresh
  simp only [bigSep_sep']
  isplitl [Hst]; · iexact Hst
  isplitl [Hat]; · iexact Hat
  isplitl [Hr] <;> iassumption

omit [FloatOps F] in
/-- The kernel's own semaphores on `c`, at zero, are the send and the receive one. -/
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0) := by
  rw [Pipeline.ownSems0_eq_of_list c osem [0, 1] (by decide) (by decide)]; rfl

omit [FloatOps F] in
/-- The one semaphore of `c` outside the launch, at zero, is the barrier. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

/-! ## The schedule put over the semaphores -/

/-- Device `c`'s semaphores under the schedule, their names not fixed. -/
def governed (c : Dev nD) : sProp 𝕄 :=
  iprop((bigSep Finset.univ fun k : Fin 3 => iprop(∃ κ : ℕ, cellInv EX (plan (staged m)) κ (cell c k)))
    ∗ (bigSep Finset.univ fun k : Fin 3 => atPos EX (cell c k) 0 ∅ 0)
    ∗ (bigSep Finset.univ fun k : Fin 3 => reached EX (cell c k) 0)
    ∗ (bigSep Finset.univ fun k : Fin 3 => dutyTok EX (cell c k) 0 ()))

/-- Device `c`'s three semaphores at zero, with their fresh ghost state, come under the schedule. -/
theorem govern (c : Dev nD) :
    iprop(Pipeline.ownSems0 (Ix := Unit) (Name := ℕ) (U := UU) (Lvl := ℕ) (Val := Elt F) (τ := τ) osem c ∗ unscopedSems0 c ∗ fresh m c)
      ⊢ (|={Set.univ}=> governed m c : sProp 𝕄) := by
  have hinv : iprop((bigSep Finset.univ fun k : Fin 3 => semVal (cell c k) 0)
        ∗ bigSep Finset.univ fun k : Fin 3 => roundState EX (plan (staged m)) (cell c k) 0)
      ⊢ (|={Set.univ}=> bigSep Finset.univ fun k : Fin 3 => iprop(∃ κ : ℕ, cellInv EX (plan (staged m)) κ (cell c k)) : sProp 𝕄) := by
    rw [← bigSep_sep']
    exact (bigSep_mono fun k _ => (Rounds.body_intro EX (plan (staged m)) (cell c k)).trans inv_alloc).trans (bigSep_fupd _ _)
  rw [ownSems0_eq, unscopedSems0_eq]
  unfold fresh
  iintro ⟨⟨V1, V2⟩, V0, Hst, Hrest⟩
  imod hinv $$ [V0 V1 V2 Hst] with Hinv
  · isplitr [Hst]
    · iapply (Entails.of_eq (three fun k : Fin 3 => semVal (cell c k) 0).symm)
      isplitl [V0]; · iexact V0
      isplitl [V1] <;> iassumption
    · iexact Hst
  imodintro
  unfold governed
  isplitl [Hinv] <;> iassumption

/-- What all devices know: the schedule governs every semaphore, and every round is open. -/
def common (K : Dev nD × Fin 3 → ℕ) : sProp 𝕄 :=
  iprop((bigSep Finset.univ fun ck : Dev nD × Fin 3 => cellInv EX (plan (staged m)) (K ck) (cell ck.1 ck.2))
    ∗ bigSep Finset.univ fun ck : Dev nD × Fin 3 => reached EX (cell ck.1 ck.2) 0)

/-- What all devices know together may be used again and again. -/
instance common_persistent (K : Dev nD × Fin 3 → ℕ) : BI.Persistent (common m K) := by unfold common; infer_instance

/-- From what all devices know: the invariant of one semaphore, and that its first round has begun. -/
theorem common_cell (K : Dev nD × Fin 3 → ℕ) (c : Dev nD) (k : Fin 3) :
    common m K ⊢ iprop(cellInv EX (plan (staged m)) (K (c, k)) (cell c k) ∗ reached EX (cell c k) 0) := by
  unfold common
  exact BI.sep_mono (bigSep_elim (Finset.mem_univ (c, k))) (bigSep_elim (Finset.mem_univ (c, k)))

/-- From what all devices know: what device `c` needs to know. -/
theorem common_known (K : Dev nD × Fin 3 → ℕ) (c : Dev nD) : common m K ⊢ known (staged m) K c := by
  iintro #H
  ihave H0 := (common_cell m K c 0) $$ H
  ihave H1 := (common_cell m K c 1) $$ H
  ihave H2 := (common_cell m K c 2) $$ H
  ihave G0 := (common_cell m K (mate c) 0) $$ H
  ihave G2 := (common_cell m K (mate c) 2) $$ H
  icases H0 with ⟨I0, -⟩
  icases H1 with ⟨I1, R1⟩
  icases H2 with ⟨I2, -⟩
  icases G0 with ⟨J0, S0⟩
  icases G2 with ⟨J2, S2⟩
  unfold known
  isplitl [I0]; · iexact I0
  isplitl [I1]; · iexact I1
  isplitl [I2]; · iexact I2
  isplitl [J0]; · iexact J0
  isplitl [J2]; · iexact J2
  isplitl [R1]; · iexact R1
  isplitl [S0] <;> iassumption

omit [FloatOps F] in
/-- The rights to raise, dealt: each device's send to itself, its barrier and receive to its mate. -/
theorem deal_raises : (bigSep Finset.univ fun c : Dev nD => bigSep Finset.univ fun k : Fin 3 => (dutyTok EX (cell c k) 0 () : sProp 𝕄))
    ⊢ bigSep Finset.univ fun c : Dev nD => raises c := by
  rw [bigSep_congr (s := Finset.univ) fun (c : Dev nD) _ => three fun k : Fin 3 => (dutyTok EX (cell c k) 0 () : sProp 𝕄)]
  unfold raises
  rw [bigSep_sep', bigSep_sep', bigSep_sep', bigSep_sep',
    bigSep_univ_equiv mates (fun c : Dev nD => (dutyTok EX (cell c 0) 0 () : sProp 𝕄)),
    bigSep_univ_equiv mates (fun c : Dev nD => (dutyTok EX (cell c 2) 0 () : sProp 𝕄))]
  iintro ⟨H0, H1, H2⟩
  isplitl [H1]; · iexact H1
  isplitl [H0]; · iexact H0
  iexact H2

omit [FloatOps F] in
/-- The reading positions of all semaphores, gathered device by device. -/
theorem deal_unread : (bigSep Finset.univ fun c : Dev nD => bigSep Finset.univ fun k : Fin 3 => (atPos EX (cell c k) 0 ∅ 0 : sProp 𝕄))
    ⊢ bigSep Finset.univ fun c : Dev nD => unread c :=
  bigSep_mono fun c _ => Entails.of_eq (three fun k : Fin 3 => atPos EX (cell c k) 0 ∅ 0)

omit [FloatOps F] in
/-- What everyone knows goes to everyone. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- Once every semaphore is under the schedule, each device is dealt its share. -/
theorem deal : (bigSep Finset.univ (governed m)) ⊢ bigSep Finset.univ (dealt m) := by
  have hd (K : Dev nD × Fin 3 → ℕ) : iprop(common m K ∗ bigSep Finset.univ fun c : Dev nD => iprop(unread c ∗ raises c)) ⊢ bigSep Finset.univ (dealt m) :=
    share_out fun c => by
      unfold dealt
      iintro ⟨#H, Hu, Hr⟩
      isplitr
      · iexists K; iapply (common_known m K c); iexact H
      isplitl [Hu] <;> iassumption
  unfold governed
  rw [bigSep_sep', bigSep_sep', bigSep_sep',
    ← bigSep_univ_prod (fun ck : Dev nD × Fin 3 => iprop(∃ κ : ℕ, cellInv EX (plan (staged m)) κ (cell ck.1 ck.2))),
    ← bigSep_univ_prod (fun ck : Dev nD × Fin 3 => (reached EX (cell ck.1 ck.2) 0 : sProp 𝕄))]
  iintro ⟨HI, Hat, HR, Htok⟩
  ihave HK := (BI.bigSep_exists_pi Finset.univ
    (fun (ck : Dev nD × Fin 3) (κ : ℕ) => (cellInv EX (plan (staged m)) κ (cell ck.1 ck.2) : sProp 𝕄))) $$ HI
  icases HK with ⟨%K, HI⟩
  iapply (hd K)
  isplitl [HI HR]
  · unfold common; isplitl [HI] <;> iassumption
  · rw [bigSep_sep']
    isplitl [Hat]
    · iapply deal_unread; iexact Hat
    · iapply deal_raises; iexact Htok

/-- From every device's fresh semaphores at zero, every device's part of the schedule. -/
theorem glob : (bigSep Finset.univ fun c => iprop(Pipeline.ownSems0 (Ix := Unit) (Name := ℕ) (U := UU) (Lvl := ℕ) (Val := Elt F) (τ := τ) osem c
      ∗ unscopedSems0 c ∗ fresh m c) : sProp 𝕄) ⊢ |={Set.univ}=> bigSep Finset.univ (dealt m) :=
  ((bigSep_mono fun c _ => govern m c).trans (bigSep_fupd _ _)).trans (BI.fupd_mono (deal m))

/-! ## Entering and leaving the call -/

omit [FloatOps F] in
/-- What the devices owe, summed, is each device's barrier unit and the credit of the copy it receives. -/
theorem launch_credit (c : Dev nD) :
    (Pipeline.launchCred owedAll c : sProp 𝕄) ⊢ iprop(cred (tallyAt (cell c 0) () 1) ∗ cred (tallyAt (cell c 2) () credit)) := by
  rw [show owedAll = fun d => owedCopy d + tallyAt (cell (mate d) 0) () 1 from rfl, Pipeline.launchCred_add]
  iintro ⟨H2, H0⟩
  isplitl [H0]
  · iapply (Pipeline.launchCred_tallyAt (csem 0) mate mate mate_mate mate_mate () 1 c); iexact H0
  · iapply (Pipeline.launchCred_tallyAt (csem 2) mate mate mate_mate mate_mate () credit c); iexact H2

/-- What a device holds at the start of the launch gives what the kernel's body starts from. -/
theorem enter (c : Dev nD) :
    iprop(Pipeline.unscopedRestP Pipeline.Prefetch.none cfg0.spec c (fun b => m ((c : Thread nD τ).loc b)) ∗ levAts tcOnly height
        ∗ Pipeline.launchCred owedAll c ∗ prngReg c (ρ c) ∗ dealt m c)
      ⊢ (|={Set.univ}=> iprop(entry m c ∗ emp) : sProp 𝕄) := by
  iintro ⟨-, Hlev, Hcred, -, Hd⟩
  ihave Hc := (launch_credit c) $$ Hcred
  icases Hc with ⟨H0, H2⟩
  imodintro
  unfold entry awaited
  isplitl
  · isplitl [Hd]; · iexact Hd
    isplitl [H0]; · iexact H0
    isplitl [H2] <;> iassumption
  · iempintro

/-- That entry state is the pipeline's state before its only step. -/
theorem entered (c : Dev nD) :
    iprop(entry m c ∗ Pipeline.prefHeld Pipeline.Prefetch.none c (fun _ => fullShare.right) (fun k => k.elim0) ∗ Pipeline.scopedRest cfg0.spec c)
      ⊢ (dats m 0 c).Φ 0 := by
  show _ ⊢ entry m c
  iintro ⟨H, -⟩
  iexact H

/-- After the only step all three semaphores of `c` are back at zero, and are returned. -/
theorem leave (c : Dev nD) :
    (dats m 0 c).Φ (Fin.last cfg0.N) ⊢ iprop(unscopedSems0 c ∗ Pipeline.ownSems0 osem c ∗ Pipeline.scopedRest cfg0.spec c) := by
  show zeroed c ⊢ _
  rw [scopedRest0_eq, ownSems0_eq, unscopedSems0_eq]
  unfold zeroed
  iintro ⟨H0, H1, H2⟩
  isplitl [H0]; · iexact H0
  isplitl
  · isplitl [H1] <;> iassumption
  · iempintro

/-- Each window holds its whole array. -/
theorem share_eq (c : Dev nD) (w : Fin cfg0.W) : (dats m 0 c).share w = fullShare := by unfold Dat.share; split <;> rfl

/-- A device may wait on its staging semaphores: they lie below all it still owes. -/
theorem waits (c : Dev nD) : (levAts tcOnly height : sProp 𝕄) ⊢ Pipeline.cellsWaits cfgs (dats m) () 0 c :=
  Pipeline.cellsWaits_intro cfgs (dats m) () 0 c fun w s t =>
    mayWait_staging c _ (by fin_cases w <;> fin_cases s <;> decide) _ (by
      rcases t with ⟨_ | _, ht⟩
      · exact Or.inl rfl
      · exact Or.inr rfl)

/-! ## The run -/

/-- What the array of window `w` holds on device `c` after the run. -/
def final (c : Dev nD) (w : Fin cfg0.W) : Buf (Elt F) ((cfg0.win w).arr.view.loc (c : Thread nD τ)) := (dats m 0 c).arrAt w cfg0.N

set_option maxRecDepth 8000 in
/-- From any memory with every semaphore at zero, the program ends on all devices with its two arrays at the computed
    contents and every semaphore at zero again. -/
theorem run_main : θ_run defs (onTc (τ := τ) (main (F := F))) ⟨m, fun _ => 0, ρ⟩ (fun r =>
    (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := owedAll) (howed₀ := fun _ => rfl) (howedN := fun _ => rfl)
    (L := tcOnly) (lv := height) (hL := tcOnly_of_ne) (hwaits := waits m)
    (G := fresh m) (G' := dealt m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := entry m) (Y := fun c => unscopedSems0 c) (Z := fun _ => iprop(emp))
    (hX := enter m ρ) (hin := entered m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Value.lean ====
/-
What the program's two arrays hold after the run, and that the results are the parts of one whole array.

The argument array ends as it was, the result array holds the exchanged block. When each device's argument is its
block of rows of a whole array, its exchanged block is its block of columns of the same array.
-/
module

public import proofs.«01_k».proof.Proof.Launch
public import Idealize.ShloMosaic.Lib.Layout

@[expose] public section

noncomputable section

namespace Cert.Exchange

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The arrays after the run -/

/-- The argument array ends as it was. -/
theorem final_arg (c : Dev nD) : final m c (0 : Fin 2) = m ((c : Thread nD τ).loc main_arg0) :=
  (dats m 0 c).arrAt_in (0 : Fin 2) rfl _

/-- An index of the argument array's one block is that index of the array. -/
theorem arg_emb (y : S256x512.Idx) : (win0_0.blk (0 : Fin 1)).view.emb y = y := by
  refine Shape.idx_ext₂ ?_ ?_
  · show 0 * _ + 1 * (y 0).val = _; omega
  · show 0 * _ + 1 * (y 1).val = _; omega

/-- An index of the result array's one block is that index of the array. -/
theorem result_emb (y : S512x256.Idx) : (win0_1.blk (0 : Fin 1)).view.emb y = y := by
  refine Shape.idx_ext₂ ?_ ?_
  · show 0 * _ + 1 * (y 0).val = _; omega
  · show 0 * _ + 1 * (y 1).val = _; omega

/-- The block staged in is the whole argument array. -/
theorem staged_eq (c : Dev nD) : staged m c = m ((c : Thread nD τ).loc main_arg0) := by
  funext y
  exact congrArg (m ((c : Thread nD τ).loc main_arg0)) (arg_emb y)

/-- The result array ends holding the exchanged block. -/
theorem final_result (c : Dev nD) : final m c (1 : Fin 2) = exchanged (fun d : Dev nD => m ((d : Thread nD τ).loc main_arg0)) c := by
  have hs : staged m = fun d : Dev nD => m ((d : Thread nD τ).loc main_arg0) := funext (staged_eq m)
  rw [← hs]
  have hr : (win0_1.blk (0 : Fin 1)).view.read (Elt F) (final m c (1 : Fin 2)) = exchanged (staged m) c := by
    have step := (dats m 0 c).arrAt_succ (1 : Fin 2) t0_0
    rw [if_pos (flush0_1 t0_0)] at step
    exact (congrArg ((win0_1.blk (0 : Fin 1)).view.read (Elt F)) step).trans (View.read_write_univ _ _)
  funext y
  refine Eq.trans ?_ (congrFun hr y)
  exact (congrArg (final m c (1 : Fin 2)) (result_emb y)).symm

/-! ## The whole array -/

/-- The part of a whole array on device `c` when its rows are dealt over the first mesh axis. -/
abbrev rowPart {α : Type} (c : Dev nD) (v : (⟨2, ![512, 512]⟩ : Shape).Idx → α) : S256x512.Idx → α :=
  Layout.blockN ⟨2, ![256, 512]⟩ ⟨2, ![512, 512]⟩ (Layout.meshBlock [2, 2, 4] ![[0], []] c) v

/-- The part of a whole array on device `c` when its columns are dealt over the first mesh axis. -/
abbrev colPart {α : Type} (c : Dev nD) (v : (⟨2, ![512, 512]⟩ : Shape).Idx → α) : S512x256.Idx → α :=
  Layout.blockN ⟨2, ![512, 256]⟩ ⟨2, ![512, 512]⟩ (Layout.meshBlock [2, 2, 4] ![[], [0]] c) v

/-- An index of the whole array from its row and column. -/
abbrev wholeIx (r j : Fin 512) : (⟨2, ![512, 512]⟩ : Shape).Idx := Shape.pair (d := ![512, 512]) r j

/-- The block number of device `c` is its first mesh coordinate. -/
theorem row_number (c : Dev nD) : ((Layout.meshBlock [2, 2, 4] (![[0], []] : Fin 2 → List Nat) c) 0).val = c.val / 8 := by
  revert c; decide
/-- The number of a device's part of columns is its first coordinate. -/
theorem col_number (c : Dev nD) : ((Layout.meshBlock [2, 2, 4] (![[], [0]] : Fin 2 → List Nat) c) 1).val = c.val / 8 := by
  revert c; decide

/-- Element `(r, j)` of a part of rows is the whole array's `(256 * x + r, j)`, `x` the device's coordinate. -/
theorem rowPart_apply {α : Type} (c : Dev nD) (v : (⟨2, ![512, 512]⟩ : Shape).Idx → α) (i : S256x512.Idx) :
    rowPart c v i = v (wholeIx ⟨256 * (c.val / 8) + (i 0).val, by have := coord_le c; have h : (i 0).val < 256 := (i 0).isLt; omega⟩ (i 1)) := by
  refine congrArg v (Shape.idx_ext₂ ?_ ?_)
  · refine (Layout.TilesN.idx_val _ _ i 0).trans ?_
    show ((Layout.meshBlock [2, 2, 4] (![[0], []] : Fin 2 → List Nat) c) 0).val * 256 + (i 0).val = 256 * (c.val / 8) + (i 0).val
    rw [row_number]; omega
  · refine (Layout.TilesN.idx_val _ _ i 1).trans ?_
    show 0 * 512 + (i 1).val = (i 1).val
    omega

/-- Element `(r, j)` of a part of columns is the whole array's `(r, 256 * x + j)`, `x` the device's coordinate. -/
theorem colPart_apply {α : Type} (c : Dev nD) (v : (⟨2, ![512, 512]⟩ : Shape).Idx → α) (i : S512x256.Idx) :
    colPart c v i = v (wholeIx (i 0) ⟨256 * (c.val / 8) + (i 1).val, by have := coord_le c; have h : (i 1).val < 256 := (i 1).isLt; omega⟩) := by
  refine congrArg v (Shape.idx_ext₂ ?_ ?_)
  · refine (Layout.TilesN.idx_val _ _ i 0).trans ?_
    show 0 * 512 + (i 0).val = (i 0).val
    omega
  · refine (Layout.TilesN.idx_val _ _ i 1).trans ?_
    show ((Layout.meshBlock [2, 2, 4] (![[], [0]] : Fin 2 → List Nat) c) 1).val * 256 + (i 1).val = 256 * (c.val / 8) + (i 1).val
    rw [col_number]; omega

omit [FloatOps F] in
/-- Exchanging the parts of rows of a whole array makes its parts of columns. -/
theorem exchanged_rowPart (v : (⟨2, ![512, 512]⟩ : Shape).Idx → Elt F .f32) (c : Dev nD) :
    exchanged (fun d => rowPart d v) c = colPart c v := by
  funext i
  have hc := coord_le c
  have hm := mate_coord c
  have h0 : ((i : S512x256.Idx) 0).val < 512 := (i 0).isLt
  refine (rowPart_apply _ v _).trans (Eq.trans ?_ (colPart_apply c v i).symm)
  refine congrArg v (Shape.idx_ext₂ ?_ rfl)
  show 256 * ((if (i 0).val / 256 = c.val / 8 then c else mate c).val / 8) + (i 0).val % 256 = (i 0).val
  split
  · omega
  · rw [hm]; omega

/-! ## The run -/

/-- From any memory with every semaphore at zero the program ends, its argument as it was, its result exchanged, and
    every semaphore at zero. -/
theorem run_value : θ_run defs (onTc (τ := τ) (main (F := F))) ⟨m, fun _ => 0, ρ⟩ (fun r =>
    (∀ c : Dev nD, r.2.mem ((c : Thread nD τ).loc main_v1) = exchanged (fun d : Dev nD => m ((d : Thread nD τ).loc main_arg0)) c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (final_result m c), (h.1 c (0 : Fin 2)).trans (final_arg m c)⟩, h.2⟩)
    (run_main m ρ)

end Cert.Exchange
-- ==== Proof.Whole.lean ====
/-
The reference: one device returns its array.

The reference performs no operation, so it ends at once with its array as it was.
-/
module

public import proofs.«01_k».proof.Proof.Gen.Reference
public import proofs.«01_k».proof.Proof.Gen.ReferenceIdeal
public import Idealize.ShloMosaic.Lib.StableHlo.Run
public import Idealize.ShloMosaic.Lib.Quiescent

@[expose] public section

noncomputable section

namespace Cert.Exchange

open Idealize.ShloMosaic Idealize.ShloMosaic.TcCoe Idealize.ShloMosaic.StableHlo Idealize.SL.Sem

variable {F : FTy → Type} [FloatOps F]

open Cert.ReferenceIdeal Cert.ReferenceIdeal.Gen in
/-- The reference over idealized values ends with every semaphore at zero and its array as it was. -/
theorem wholeIdeal (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (run_seq (by decide) (by decide) defs main (fun _ => []) (fun _ => rfl) (fun _ => trivial) m ρ)

open Cert.Reference Cert.Reference.Gen in
/-- The reference over machine values ends with every semaphore at zero and its array as it was. -/
theorem wholeBits (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.Exchange
-- ==== Proof.Claims.lean ====
/-
The claims, each from the run of its program.

The kernel's program and its idealized form have one text, so the run proved for the second, at any reading of the
floats, is the run of the first.
-/
module

public import proofs.«01_k».proof.Defs
public import proofs.«01_k».proof.Proof.Value
public import proofs.«01_k».proof.Proof.Whole
public import proofs.«01_k».proof.Proof.Gen.Kernel

@[expose] public section

noncomputable section

namespace Cert.Proof

open Idealize.ShloMosaic Idealize.ShloMosaic.TcCoe Idealize.SL.Sem

/-! ## One program -/

/-- The kernel and its idealized form have the same body. -/
theorem same_body {F : FTy → Type} [FloatOps F] : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (_, _) => exact rfl

/-- So their tables of bodies are the same. -/
theorem same_defs {F : FTy → Type} [FloatOps F] : Cert.Kernel.defs (F := F) = Cert.KernelIdeal.defs (F := F) := by
  unfold Cert.Kernel.defs Cert.KernelIdeal.defs
  exact congrArg (Pipeline.defs (Cert.KernelIdeal.pcfgs (F := F))) same_body

/-! ## The programs run -/

/-- The kernel over machine floats ends with its argument as it was and every semaphore at zero. -/
theorem frame_kernel : Cert.quiescent_Kernel := fun m g _ => by
  rw [same_defs]
  exact (θ_run Cert.KernelIdeal.defs _ _).mono (fun _ h => ⟨fun c => (h.1 c).2, h.2⟩) (Cert.Exchange.run_value (F := Bits) m g)

/-- The kernel over idealized floats ends with its argument as it was and every semaphore at zero. -/
theorem frame_kernelIdeal : Cert.quiescent_KernelIdeal := fun m g _ =>
  (θ_run Cert.KernelIdeal.defs _ _).mono (fun _ h => ⟨fun c => (h.1 c).2, h.2⟩) (Cert.Exchange.run_value (F := Ideal) m g)

/-- The reference over idealized floats ends with its argument as it was and every semaphore at zero. -/
theorem frame_referenceIdeal : Cert.quiescent_ReferenceIdeal := fun m g _ => Cert.Exchange.wholeIdeal (F := Ideal) m g

/-- The reference over machine floats ends with its argument as it was and every semaphore at zero. -/
theorem frame_reference : Cert.quiescent_Reference := fun m g _ => Cert.Exchange.wholeBits (F := Bits) m g

/-- Nothing of the kernel is rewritten in its idealized form. -/
theorem preserves : Cert.preserves_Kernel_KernelIdeal := trivial

/-! ## The result is the reference's -/

/-- When the devices' arguments are the parts of rows of a whole array, their results are its parts of columns, over
    any reading of the floats. -/
theorem run_parts {F : FTy → Type} [FloatOps F]
    (m : (ℓ : Loc Cert.KernelIdeal.nD Cert.KernelIdeal.τ Cert.KernelIdeal.sig) → Buf (Elt F) ℓ) (g : Dev Cert.KernelIdeal.nD → PrngReg)
    (v : (⟨2, ![512, 512]⟩ : Shape).Idx → Elt F .f32)
    (hv : ∀ c : Dev Cert.KernelIdeal.nD, m ((c : Thread Cert.KernelIdeal.nD Cert.KernelIdeal.τ).loc Cert.KernelIdeal.main_arg0) = Cert.Exchange.rowPart c v) :
    θ_run (Cert.KernelIdeal.defs (F := F)) (onTc (τ := Cert.KernelIdeal.τ) (Cert.KernelIdeal.main (F := F))) ⟨m, fun _ => 0, g⟩ (fun r =>
      ∀ c : Dev Cert.KernelIdeal.nD,
        r.2.mem ((c : Thread Cert.KernelIdeal.nD Cert.KernelIdeal.τ).loc Cert.KernelIdeal.main_v1) = Cert.Exchange.colPart c v
        ∧ r.2.mem ((c : Thread Cert.KernelIdeal.nD Cert.KernelIdeal.τ).loc Cert.KernelIdeal.main_arg0)
          = m ((c : Thread Cert.KernelIdeal.nD Cert.KernelIdeal.τ).loc Cert.KernelIdeal.main_arg0)) := by
  have hx : (fun d : Dev Cert.KernelIdeal.nD => m ((d : Thread Cert.KernelIdeal.nD Cert.KernelIdeal.τ).loc Cert.KernelIdeal.main_arg0))
      = fun d => Cert.Exchange.rowPart d v := funext hv
  exact (θ_run Cert.KernelIdeal.defs _ _).mono
    (fun _ h c => ⟨(h.1 c).1.trans ((congrArg (fun X => Cert.Exchange.exchanged X c) hx).trans (Cert.Exchange.exchanged_rowPart v c)), (h.1 c).2⟩)
    (Cert.Exchange.run_value m g)

/-- Over idealized floats the kernel's results are the parts of the reference's result. -/
theorem algebraic : Cert.algebraic_KernelIdeal_ReferenceIdeal := fun m g m' g' _ hv =>
  ⟨_, run_parts (F := Ideal) m g _ hv,
    (θ_run Cert.ReferenceIdeal.defs _ _).mono (fun _ h => ⟨h.1 0, h.1 0⟩) (Cert.Exchange.wholeIdeal (F := Ideal) m' g')⟩

/-- Bit for bit the kernel's results are the parts of the reference's result. -/
theorem bitexact : Cert.bitexact_Kernel_Reference := fun m g m' g' _ hv => by
  rw [same_defs]
  exact ⟨_, run_parts (F := Bits) m g _ hv,
    (θ_run Cert.Reference.defs _ _).mono (fun _ h => ⟨h.1 0, h.1 0⟩) (Cert.Exchange.wholeBits (F := Bits) m' g')⟩

end Cert.Proof
-- ==== Proof.lean ====
/-
The proof of `Cert.Claim`: the kernel and the reference run and leave their arguments alone, and the kernel's results
are the parts of the reference's result, over idealized floats and bit for bit. Each claim is proved in
Proof/Claims.lean; here they are put together.
-/
module

public import proofs.«01_k».proof.Defs
public import proofs.«01_k».proof.Proof.Claims

@[expose] public section

noncomputable section

namespace Cert.Proof

/-- Everything claimed holds. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, preserves, algebraic, bitexact⟩

end Cert.Proof

end
